-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1000 : Shape := ⟨2, ![16384, 1000]⟩
abbrev S1000 : Shape := ⟨1, ![1000]⟩
abbrev S1 : Shape := ⟨1, ![1]⟩
abbrev S1000x16384 : Shape := ⟨2, ![1000, 16384]⟩
abbrev S1000x2 : Shape := ⟨2, ![1000, 2]⟩
abbrev S1000x1 : Shape := ⟨2, ![1000, 1]⟩
abbrev S_ : Shape := ⟨0, ![]⟩
abbrev S1x1000x2 : Shape := ⟨3, ![1, 1000, 2]⟩
abbrev S8x1000x2 : Shape := ⟨3, ![8, 1000, 2]⟩
abbrev S1000x2048 : Shape := ⟨2, ![1000, 2048]⟩
abbrev S1x1000x1 : Shape := ⟨3, ![1, 1000, 1]⟩

abbrev nBuf : Space → Nat
  | .hbm => 30
  | .vmem => 6
  | .smem => 0
  | _ => 0

abbrev bufTy : (tb : Table) → Fin (tcTables nBuf tb) → BufTy
  | .hbm, ⟨0, _⟩ => ⟨S16384x1000, .f32⟩
  | .hbm, ⟨1, _⟩ => ⟨S1000, .i1⟩
  | .hbm, ⟨2, _⟩ => ⟨S1, .f32⟩
  | .hbm, ⟨3, _⟩ => ⟨S1, .f32⟩
  | .hbm, ⟨4, _⟩ => ⟨S1000x16384, .f32⟩
  | .hbm, ⟨5, _⟩ => ⟨S1000x2, .i32⟩
  | .hbm, ⟨6, _⟩ => ⟨S1000x1, .i1⟩
  | .hbm, ⟨7, _⟩ => ⟨S_, .i32⟩
  | .hbm, ⟨8, _⟩ => ⟨S1000x2, .i32⟩
  | .hbm, ⟨9, _⟩ => ⟨S1000x2, .i1⟩
  | .hbm, ⟨10, _⟩ => ⟨S_, .f32⟩
  | .hbm, ⟨11, _⟩ => ⟨S_, .f32⟩
  | .hbm, ⟨12, _⟩ => ⟨S1000x2, .f32⟩
  | .hbm, ⟨13, _⟩ => ⟨S1000x2, .f32⟩
  | .hbm, ⟨14, _⟩ => ⟨S1000x2, .f32⟩
  | .hbm, ⟨15, _⟩ => ⟨S_, .i32⟩
  | .hbm, ⟨16, _⟩ => ⟨S1000x2, .i32⟩
  | .hbm, ⟨17, _⟩ => ⟨S1000x2, .i1⟩
  | .hbm, ⟨18, _⟩ => ⟨S_, .f32⟩
  | .hbm, ⟨19, _⟩ => ⟨S_, .f32⟩
  | .hbm, ⟨20, _⟩ => ⟨S1000x2, .f32⟩
  | .hbm, ⟨21, _⟩ => ⟨S1000x2, .f32⟩
  | .hbm, ⟨22, _⟩ => ⟨S1000x2, .f32⟩
  | .hbm, ⟨23, _⟩ => ⟨S1000x2, .f32⟩
  | .hbm, ⟨24, _⟩ => ⟨S1000x2, .i1⟩
  | .hbm, ⟨25, _⟩ => ⟨S1000x2, .f32⟩
  | .hbm, ⟨26, _⟩ => ⟨S1x1000x2, .f32⟩
  | .hbm, ⟨27, _⟩ => ⟨S8x1000x2, .f32⟩
  | .hbm, ⟨28, _⟩ => ⟨S1000x16384, .f32⟩
  | .hbm, ⟨29, _⟩ => ⟨S16384x1000, .f32⟩
  | .local _ .vmem, ⟨0, _⟩ => ⟨S1x1000x2, .f32⟩
  | .local _ .vmem, ⟨1, _⟩ => ⟨S1x1000x2, .f32⟩
  | .local _ .vmem, ⟨2, _⟩ => ⟨S1000x2048, .f32⟩
  | .local _ .vmem, ⟨3, _⟩ => ⟨S1000x2048, .f32⟩
  | .local _ .vmem, ⟨4, _⟩ => ⟨S1000x2048, .f32⟩
  | .local _ .vmem, ⟨5, _⟩ => ⟨S1000x2048, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_cst_1 : Ref sig .tc := ⟨.hbm, 19, rfl⟩
abbrev main_call1_v0 : Ref sig .tc := ⟨.hbm, 20, rfl⟩
abbrev main_call1_v1 : Ref sig .tc := ⟨.hbm, 21, rfl⟩
abbrev main_v10 : Ref sig .tc := ⟨.hbm, 22, rfl⟩
abbrev main_call2_v0 : Ref sig .tc := ⟨.hbm, 23, rfl⟩
abbrev main_call2_v1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x1000 : Shape := ⟨2, ![16384, 1000]⟩
abbrev S1000 : Shape := ⟨1, ![1000]⟩
abbrev S1 : Shape := ⟨1, ![1]⟩
abbrev S_ : Shape := ⟨0, ![]⟩
abbrev S1x1000 : Shape := ⟨2, ![1, 1000]⟩

abbrev nBuf : Space → Nat
  | .hbm => 13
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000, .i1⟩
  | .hbm, ⟨2, _⟩ => ⟨S1, .f32⟩
  | .hbm, ⟨3, _⟩ => ⟨S1, .f32⟩
  | .hbm, ⟨4, _⟩ => ⟨S_, .f32⟩
  | .hbm, ⟨5, _⟩ => ⟨S16384x1000, .f32⟩
  | .hbm, ⟨6, _⟩ => ⟨S16384x1000, .f32⟩
  | .hbm, ⟨7, _⟩ => ⟨S_, .f32⟩
  | .hbm, ⟨8, _⟩ => ⟨S16384x1000, .f32⟩
  | .hbm, ⟨9, _⟩ => ⟨S16384x1000, .f32⟩
  | .hbm, ⟨10, _⟩ => ⟨S1x1000, .i1⟩
  | .hbm, ⟨11, _⟩ => ⟨S16384x1000, .i1⟩
  | .hbm, ⟨12, _⟩ => ⟨S16384x1000, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Bic.Table.lean ====
/-
  The two arrays that the host code hands to the kernel's region, read at an index: the transposed input, and the table
  of scales and biases. Column `r` of the input has the row `(scale, bias)` of the table: `(alpha, beta)` where the mask
  is set, `(1, 0)` where it is not; the table repeats these rows once for each grid point.
-/
module

public import proofs.«01_k».proof.Proof.Gen.KernelIdeal.Frame
public import Idealize.ShloMosaic.Lib.StableHlo.Run
public import Idealize.ShloMosaic.Lib.Pipeline.Value
public import Idealize.ShloMosaic.Lib.ValueIdx
public import Idealize.ShloMosaic.Lib.ValueIdxCoords
public import Idealize.ShloMosaic.Lib.IdealHost

@[expose] public section

noncomputable section

namespace Cert.Bic

open Idealize.ShloMosaic Idealize.ShloMosaic.TcCoe Idealize.ShloMosaic.ValueIdx
open Cert.KernelIdeal Cert.KernelIdeal.Gen

/-- The scale of column `r`: `alpha` where the mask is set, one elsewhere. -/
def scale (k : S1000.Idx → BitVec 1) (a : S1.Idx → EReal) (r : Fin 1000) : EReal :=
  Scalar.select (k (ix1 r)) (a (ix1 u0)) 1

/-- The bias of column `r`: `beta` where the mask is set, zero elsewhere. -/
def bias (k : S1000.Idx → BitVec 1) (b : S1.Idx → EReal) (r : Fin 1000) : EReal :=
  Scalar.select (k (ix1 r)) (b (ix1 u0)) 0

variable (m : (ℓ : Loc nD τ sig) → Buf (Elt Ideal) ℓ) (c : Dev nD)

/-- Device `c`'s input matrix. -/
abbrev inp : S16384x1000.Idx → EReal := m ((c : Thread nD τ).loc main_arg0)
/-- Device `c`'s mask of columns. -/
abbrev msk : S1000.Idx → BitVec 1 := m ((c : Thread nD τ).loc main_arg1)
/-- Device `c`'s alpha. -/
abbrev alp : S1.Idx → EReal := m ((c : Thread nD τ).loc main_arg2)
/-- Device `c`'s beta. -/
abbrev bet : S1.Idx → EReal := m ((c : Thread nD τ).loc main_arg3)

/-- The region's second operand is the input, transposed. -/
theorem V_v0 : V m c main_v0 = transpose S1000x16384 [1, 0] (inp m c) transposes_S16384x1000_S1000x16384_1_0 := by
  unfold V V0
  simp only [hostOps0, hostOps0_1, hostOps0_2, hostOps0_3, hostOps0_4, hostOps0_5, List.flatten_cons, List.flatten_nil,
    List.append_nil, List.cons_append, List.nil_append, StableHlo.TRef.ternary, StableHlo.TRef.unary,
    StableHlo.TRef.toBuf, StableHlo.TRef.ofBuf, cast_eq]
  after_results <;> rfl

/-- A scalar argument as the host code spreads it over the table's two columns. -/
abbrev spread (v : FVec Ideal S_ .f32) : FVec Ideal S1000x2 .f32 := broadcastInDim S1000x2 ![] bcast_S_S1000x2 v

/-- Which entries of the table lie in its first column. -/
abbrev firstCol : IVec S1000x2 1 :=
  cmpi .eq (iotaInDim S1000x2 32 1) (broadcastInDim S1000x2 ![] bcast_S_S1000x2 (constantI S_ 32 0#32))

/-- The table's rows, before they are repeated for each grid point. -/
abbrev rows (k : IVec S1000 1) (a b : FVec Ideal S1 .f32) : FVec Ideal S1000x2 .f32 :=
  select (broadcastInDim S1000x2 ![0, 1] bcast_S1000x1_S1000x2_0_1 (broadcastInDim S1000x1 ![0] bcast_S1000_S1000x1_0 k))
    (select firstCol (spread (shapeCast S_ a shapeCasts_S1_S_)) (spread (shapeCast S_ b shapeCasts_S1_S_)))
    (select firstCol (spread (constant S_ .f32 0x3F800000#32)) (spread (constant S_ .f32 0x00000000#32)))

/-- The region's first operand is the table's rows, repeated along a leading axis. -/
theorem V_v13 : V m c main_v13 = broadcastInDim S8x1000x2 ![0, 1, 2] bcast_S1x1000x2_S8x1000x2_0_1_2
    (broadcastInDim S1x1000x2 ![1, 2] bcast_S1000x2_S1x1000x2_1_2 (rows (msk m c) (alp m c) (bet m c))) := by
  unfold V V0
  simp only [hostOps0, hostOps0_1, hostOps0_2, hostOps0_3, hostOps0_4, hostOps0_5, List.flatten_cons, List.flatten_nil,
    List.append_nil, List.cons_append, List.nil_append, StableHlo.TRef.ternary, StableHlo.TRef.unary,
    StableHlo.TRef.toBuf, StableHlo.TRef.ofBuf, cast_eq]
  after_results <;> rfl

/-- The transposed input at `(r, l)` is the input at `(l, r)`. -/
theorem V_v0_apply (r : Fin 1000) (l : Fin 16384) : V m c main_v0 (ix2 r l : S1000x16384.Idx) = inp m c (ix2 l r) := by
  rw [V_v0]
  refine transpose_apply _ _ _ _ (ix2 l r) fun b => ?_
  match b with
  | ⟨0, _⟩ => rfl
  | ⟨1, _⟩ => rfl

/-- An entry is marked as lying in the first column exactly when its second coordinate is zero. -/
theorem firstCol_apply (r : Fin 1000) (s : Fin 2) : firstCol (ix2 r s) = if s = 0 then 1#1 else 0#1 := by
  have key : ∀ s : Fin 2, IntOp.cmpi .eq (BitVec.ofNat 32 s.val) 0#32 = if s = 0 then 1#1 else 0#1 := by decide
  exact key s

/-- A spread scalar is that scalar everywhere. -/
theorem spread_cast_apply (v : FVec Ideal S1 .f32) (i : S1000x2.Idx) :
    spread (shapeCast S_ v shapeCasts_S1_S_) i = v (ix1 u0) := by
  refine (broadcastInDim_apply _ _ _ _ ix0 fun a => a.elim0).trans ?_
  exact congrArg v (eq_ix1_u0 _)

/-- Row `r` of the table is `(scale r, bias r)`. -/
theorem rows_apply (k : IVec S1000 1) (a b : FVec Ideal S1 .f32) (r : Fin 1000) (s : Fin 2) :
    rows k a b (ix2 r s) = if s = 0 then scale k a r else bias k b r := by
  have hk : broadcastInDim S1000x2 ![0, 1] bcast_S1000x1_S1000x2_0_1
      (broadcastInDim S1000x1 ![0] bcast_S1000_S1000x1_0 k) (ix2 r s) = k (ix1 r) := by
    refine (broadcastInDim_apply _ _ _ _ (ix2 r u0) fun x => ?_).trans (broadcastInDim_apply _ _ _ _ (ix1 r) fun x => ?_)
    · match x with
      | ⟨0, _⟩ => rfl
      | ⟨1, _⟩ => rfl
    · match x with
      | ⟨0, _⟩ => rfl
  have h1 : spread (constant S_ .f32 0x3F800000#32) (ix2 r s) = (1 : EReal) := Ideal.ofBits_one_f32
  have h0 : spread (constant S_ .f32 0x00000000#32) (ix2 r s) = (0 : EReal) := Ideal.ofBits_zero_f32
  unfold rows
  rw [select_apply, select_apply, select_apply, hk, firstCol_apply, spread_cast_apply, spread_cast_apply, h1, h0]
  unfold scale bias
  split <;> rfl

/-- The table at grid point `p`, column `r` of the input: its first entry is the scale, its second the bias. -/
theorem V_v13_apply (p : Fin 8) (r : Fin 1000) (s : Fin 2) : V m c main_v13 (ix3 p r s : S8x1000x2.Idx)
    = if s = 0 then scale (msk m c) (alp m c) r else bias (msk m c) (bet m c) r := by
  rw [V_v13]
  refine (broadcastInDim_apply _ _ _ _ (ix3 u0 r s) fun x => ?_).trans
    ((broadcastInDim_apply _ _ _ _ (ix2 r s) fun x => ?_).trans (rows_apply _ _ _ r s))
  · match x with
    | ⟨0, _⟩ => rfl
    | ⟨1, _⟩ => rfl
    | ⟨2, _⟩ => rfl
  · match x with
    | ⟨0, _⟩ => rfl
    | ⟨1, _⟩ => rfl

end Cert.Bic

end
-- ==== Proof.Bic.Block.lean ====
/-
  What the region's result array holds. At each grid point the body multiplies its block of 2048 columns of the
  transposed input by the table's scales and adds the table's biases; the eight blocks tile the array, so the array ends
  holding, at `(r, l)`, the input at `(l, r)` times the scale of column `r` plus its bias.
-/
module

public import proofs.«01_k».proof.Proof.Bic.Table

@[expose] public section

noncomputable section

namespace Cert.Bic

open Idealize.ShloMosaic Idealize.ShloMosaic.TcCoe Idealize.ShloMosaic.ValueIdx
open Idealize.ShloMosaic.Pipeline (Dat Window)
open Cert.KernelIdeal Cert.KernelIdeal.Gen

/-- What the body computes at `(r, l)` of a block, from the two columns of the table that it loads and its block of the
    transposed input. -/
theorem pay_apply (s b : FVec Ideal S1x1000x1 .f32) (x : FVec Ideal S1000x2048 .f32) (r : Fin 1000) (l : Fin 2048) :
    k0_pay1 s b x (ix2 r l) = x (ix2 r l) * s (ix3 u0 r u0) + b (ix3 u0 r u0) := by
  have col (v : FVec Ideal S1x1000x1 .f32) :
      broadcastTo S1000x2048 (shapeCast S1000x1 v shapeCasts_S1x1000x1_S1000x1) broadcasts_S1000x1_S1000x2048 (ix2 r l)
        = v (ix3 u0 r u0) := by
    refine (broadcastTo_apply _ _ _ (ix2 r u0) fun a => ?_).trans (shapeCast_apply _ _ _ (ix3 u0 r u0) ?_)
    · match a with
      | ⟨0, _⟩ => rfl
      | ⟨1, _⟩ => rfl
    · rw [Shape.rowMajor_val_three, Shape.rowMajor_val_two]
      show (0 * 1000 + r.val) * 1 + 0 = r.val * 1 + 0
      omega
  unfold k0_pay1
  rw [addf_apply, mulf_apply, col, col, shapeCast_self]

/-- What the body leaves in its result block at `(r, l)`, from the blocks of its two operands. -/
theorem out_apply (x0 : FVec Ideal S1x1000x2 .f32) (x1 : FVec Ideal S1000x2048 .f32) (r : Fin 1000) (l : Fin 2048) :
    out0_2 (F := Ideal) x0 x1 (ix2 r l) = x1 (ix2 r l) * x0 (ix3 u0 r 0) + x0 (ix3 u0 r 1) := by
  have hz : (![0, 0] : Fin 2 → Nat) = fun _ => 0 := funext fun a => by fin_cases a <;> rfl
  have h0 : View.ld (Val := Elt Ideal) (e' := .f32) x0 r0_0 (ix3 u0 r u0) = x0 (ix3 u0 r 0) := by
    refine congrArg x0 (funext fun a => Fin.ext ?_)
    match a with
    | ⟨0, _⟩ => rfl
    | ⟨1, _⟩ => show 0 + 1 * r.val = r.val; omega
    | ⟨2, _⟩ => rfl
  have h1 : View.ld (Val := Elt Ideal) (e' := .f32) x0 r0_1 (ix3 u0 r u0) = x0 (ix3 u0 r 1) := by
    refine congrArg x0 (funext fun a => Fin.ext ?_)
    match a with
    | ⟨0, _⟩ => rfl
    | ⟨1, _⟩ => show 0 + 1 * r.val = r.val; omega
    | ⟨2, _⟩ => rfl
  unfold out0_2
  rw [View.canon_unit_zero hz, pay_apply, View.ld_unit_zero hz, h0, h1]

variable (m : (ℓ : Loc nD τ sig) → Buf (Elt Ideal) ℓ) (c : Dev nD)

/-- What the region's result array is shown to hold at `(r, l)`. -/
def affine (i : S1000x16384.Idx) : EReal :=
  inp m c (ix2 (i 1) (i 0)) * scale (msk m c) (alp m c) (i 0) + bias (msk m c) (bet m c) (i 0)

/-- A grid point's one coordinate is the point. -/
theorem coord_eq (t : Fin cfg0.N) : (grid0.coords t 0 : Nat) = t.val := by
  rcases fin_N0 t with rfl | rfl | rfl | rfl | rfl | rfl | rfl | rfl <;> decide

/-- There are eight grid points. -/
theorem point_lt (t : Fin cfg0.N) : t.val < 8 := lt_of_lt_of_eq t.isLt N_0

/-- The block index of grid point `t`, window by window and axis by axis. -/
theorem index_eq (t : Fin cfg0.N) :
    (win0_0.index t 0 = t.val ∧ win0_0.index t 1 = 0 ∧ win0_0.index t 2 = 0)
    ∧ (win0_1.index t 0 = 0 ∧ win0_1.index t 1 = t.val)
    ∧ (win0_2.index t 0 = 0 ∧ win0_2.index t 1 = t.val) := by
  rcases fin_N0 t with rfl | rfl | rfl | rfl | rfl | rfl | rfl | rfl <;> decide

/-- Column `l` of the block of grid point `t` is this column of the array. -/
def column (t : Fin cfg0.N) (l : Fin 2048) : Fin 16384 := ⟨t.val * 2048 + l.val, by have := point_lt t; omega⟩

/-- The table's block at a grid point holds that point's copy of the table. -/
theorem table_block (t : Fin cfg0.N) (r : Fin 1000) (s : Fin 2) : iblk m c 0 t (ix3 u0 r s)
    = if s = 0 then scale (msk m c) (alp m c) r else bias (msk m c) (bet m c) r := by
  have e : (win0_0.rect t).emb (ix3 u0 r s) = (ix3 (⟨t.val, point_lt t⟩ : Fin 8) r s : S8x1000x2.Idx) := by
    obtain ⟨⟨i0, i1, i2⟩, -⟩ := index_eq t
    funext a
    refine Fin.ext ((Window.rect_emb_val win0_0 t (ix3 u0 r s) a).trans ?_)
    match a with
    | ⟨0, _⟩ => show win0_0.index t 0 * 1 + 0 = t.val; omega
    | ⟨1, _⟩ => show win0_0.index t 1 * 1000 + r.val = r.val; omega
    | ⟨2, _⟩ => show win0_0.index t 2 * 2 + s.val = s.val; omega
  exact (congrArg (V m c main_v13) e).trans (V_v13_apply m c _ r s)

/-- The input's block at a grid point holds that point's columns of the transposed input. -/
theorem input_block (t : Fin cfg0.N) (r : Fin 1000) (l : Fin 2048) :
    iblk m c 1 t (ix2 r l) = inp m c (ix2 (column t l) r) := by
  have e : (win0_1.rect t).emb (ix2 r l) = (ix2 r (column t l) : S1000x16384.Idx) := by
    obtain ⟨-, ⟨i0, i1⟩, -⟩ := index_eq t
    funext a
    refine Fin.ext ((Window.rect_emb_val win0_1 t (ix2 r l) a).trans ?_)
    match a with
    | ⟨0, _⟩ => show win0_1.index t 0 * 1000 + r.val = r.val; omega
    | ⟨1, _⟩ => show win0_1.index t 1 * 2048 + l.val = t.val * 2048 + l.val; omega
  exact (congrArg (V m c main_v0) e).trans (V_v0_apply m c r _)

/-- The block written back at a grid point is that point's block of `affine`. -/
theorem flushed_eq (t : Fin cfg0.N) :
    (dats m 0 c).flushed 2 t = ((cfg0.win 2).blk t).view.read (Elt Ideal) (affine m c) := by
  show (cfg0.win 2).cut (grid0.coords t) ((dats m 0 c).after 2 t) = _
  rw [after0_2]
  funext (j : S1000x2048.Idx)
  show out0_2 (iblk m c 0 t) (iblk m c 1 t) j = affine m c ((win0_2.rect t).emb j)
  obtain ⟨r, l, rfl⟩ : ∃ (r : Fin 1000) (l : Fin 2048), j = ix2 r l := ⟨j 0, j 1, eq_ix2 j⟩
  have e : (win0_2.rect t).emb (ix2 r l) = (ix2 r (column t l) : S1000x16384.Idx) := by
    obtain ⟨-, -, i0, i1⟩ := index_eq t
    funext a
    refine Fin.ext ((Window.rect_emb_val win0_2 t (ix2 r l) a).trans ?_)
    match a with
    | ⟨0, _⟩ => show win0_2.index t 0 * 1000 + r.val = r.val; omega
    | ⟨1, _⟩ => show win0_2.index t 1 * 2048 + l.val = t.val * 2048 + l.val; omega
  refine (out_apply _ _ r l).trans (Eq.trans ?_ (congrArg (affine m c) e).symm)
  rw [input_block, table_block, table_block]
  rfl

/-- Every index of the result array lies in the block of some grid point. -/
theorem cover (i : S1000x16384.Idx) :
    ∃ t : Fin cfg0.N, (cfg0.win 2).flush t = true ∧ i ∈ ((cfg0.win 2).blk t).view.set := by
  have h0 : (i 0).val < 1000 := (i 0).isLt
  have h1 : (i 1).val < 16384 := (i 1).isLt
  have hN : cfg0.N = 8 := N_0
  obtain ⟨t, ht⟩ : ∃ t : Fin cfg0.N, t.val = (i 1).val / 2048 := ⟨⟨(i 1).val / 2048, by omega⟩, rfl⟩
  refine ⟨t, flush0_2 _, ?_⟩
  show i ∈ ((View.whole main_v14).slice (win0_2.rect t)).set
  rw [View.set_slice_whole, Rect.mem_set_unit]
  obtain ⟨-, -, i0, i1⟩ := index_eq t
  intro a
  match a with
  | ⟨0, _⟩ => show win0_2.index t 0 * 1000 ≤ (i 0).val ∧ (i 0).val < win0_2.index t 0 * 1000 + 1000; omega
  | ⟨1, _⟩ => show win0_2.index t 1 * 2048 ≤ (i 1).val ∧ (i 1).val < win0_2.index t 1 * 2048 + 2048; omega

/-- The region's result array ends holding `affine`. -/
theorem region_final : (dats m 0 c).arrAt 2 cfg0.N = affine m c :=
  (dats m 0 c).arrAt_eq_of_cover 2 (affine m c) (fun t _ => flushed_eq m c t) cover

end Cert.Bic

end
-- ==== Proof.Bic.Value.lean ====
/-
  The equation of the two programs over the extended reals. The kernel's result is the region's array transposed back,
  so at `(l, r)` it is the input there times the scale of column `r` plus its bias. Where the mask is set that is
  `x * alpha + beta`, elsewhere `x * 1 + 0`, which is `x` for every extended real `x`; the reference chooses between the
  same two values by the mask.
-/
module

public import proofs.«01_k».proof.Defs
public import proofs.«01_k».proof.Proof.Bic.Block
public import proofs.«01_k».proof.Proof.Gen.ReferenceIdeal.Run
public import Idealize.ShloMosaic.Lib.Quiescent

@[expose] public section

noncomputable section

namespace Cert.Bic

open Idealize.ShloMosaic Idealize.ShloMosaic.TcCoe Idealize.SL.Sem Idealize.ShloMosaic.ValueIdx
open Cert.KernelIdeal

/-- The problem's mathematics: the affine map of the entry in the masked columns, the entry itself in the others. -/
def bic (x : S16384x1000.Idx → EReal) (k : S1000.Idx → BitVec 1) (a b : S1.Idx → EReal) (i : S16384x1000.Idx) : EReal :=
  Scalar.select (k (ix1 (i 1))) (x i * a (ix1 u0) + b (ix1 u0)) (x i)

/-- Scaling by column `r`'s scale and adding its bias is the masked affine map. -/
theorem scale_bias (k : S1000.Idx → BitVec 1) (a b : S1.Idx → EReal) (x : EReal) (r : Fin 1000) :
    x * scale k a r + bias k b r = Scalar.select (k (ix1 r)) (x * a (ix1 u0) + b (ix1 u0)) x := by
  unfold scale bias
  by_cases h : k (ix1 r) = 1#1
  · rw [h, select_one, select_one, select_one]
  · rw [eq_zero_of_ne_one h, select_zero, select_zero, select_zero, mul_one, add_zero]

section Kernel

open Cert.KernelIdeal.Gen

variable (m : (ℓ : Loc nD τ sig) → Buf (Elt Ideal) ℓ) (ρ : Dev nD → PrngReg)

/-- The kernel's result is the region's result array, transposed. -/
theorem tail_eq (c : Dev nD) : Pipeline.afterTail₀ cfgs (dats m) 0 (V0 m) [hostOps1] c main_v15
    = transpose S16384x1000 [1, 0] (affine m c) transposes_S1000x16384_S16384x1000_1_0 := by
  have h : Pipeline.withArrays (cfgs 0).spec c (V0 m c) (fun w => (dats m 0 c).arrAt w (cfgs 0).N)
      (Proc.devRef .tc main_v14) = affine m c :=
    (Pipeline.withArrays_arr spec0 launch0.win.arr_inj c (V0 m c) _ 2).trans (region_final m c)
  unfold Pipeline.afterTail₀
  simp only [hostOps1, List.flatten_cons, List.flatten_nil, List.append_nil]
  after_results
  rw [h]

/-- The kernel's result is the masked affine map of its arguments. -/
theorem kernel_value (c : Dev nD) : Pipeline.afterTail₀ cfgs (dats m) 0 (V0 m) [hostOps1] c main_v15
    = bic (inp m c) (msk m c) (alp m c) (bet m c) := by
  rw [tail_eq]
  funext (i : S16384x1000.Idx)
  obtain ⟨l, r, rfl⟩ : ∃ (l : Fin 16384) (r : Fin 1000), i = ix2 l r := ⟨i 0, i 1, eq_ix2 i⟩
  refine (transpose_apply _ _ _ _ (ix2 r l) fun b => ?_).trans (scale_bias _ _ _ _ r)
  match b with
  | ⟨0, _⟩ => rfl
  | ⟨1, _⟩ => rfl

/-- The idealized kernel's run: its result is the masked affine map of its arguments. -/
theorem kernel_result : θ_run defs (onTc (τ := τ) (main (F := Ideal))) ⟨m, fun _ => 0, ρ⟩ fun r => ∀ c : Dev nD,
      r.2.mem ((c.tc : Thread nD τ).loc main_v15) = bic (inp m c) (msk m c) (alp m c) (bet m c) :=
  (θ_run defs _ _).mono
    (fun _ h c => ((h c).2 main_v15 (Pipeline.mem_restRefs_of main_v15 (by decide) (by decide))).trans (kernel_value m c))
    (run_main m ρ)

/-- The same run, with the arguments unchanged. -/
theorem kernel_run : θ_run defs (onTc (τ := τ) (main (F := Ideal))) ⟨m, fun _ => 0, ρ⟩ fun r => ∀ c : Dev nD,
      r.2.mem ((c.tc : Thread nD τ).loc main_v15) = bic (inp m c) (msk m c) (alp m c) (bet m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h.1 c, h.2 c⟩) (θ_run_and (kernel_result m ρ) (unchanged m ρ))

end Kernel

/-- The reference's expression is the masked affine map. -/
theorem reference_value (x : FVec Ideal Cert.ReferenceIdeal.S16384x1000 .f32) (k : IVec Cert.ReferenceIdeal.S1000 1)
    (a b : FVec Ideal Cert.ReferenceIdeal.S1 .f32) :
    select (broadcastInDim Cert.ReferenceIdeal.S16384x1000 ![0, 1] Cert.ReferenceIdeal.Facts₀.bcast_S1x1000_S16384x1000_0_1
        (broadcastInDim Cert.ReferenceIdeal.S1x1000 ![1] Cert.ReferenceIdeal.Facts₀.bcast_S1000_S1x1000_1 k))
      (addf (mulf x (broadcastInDim Cert.ReferenceIdeal.S16384x1000 ![] Cert.ReferenceIdeal.Facts₀.bcast_S_S16384x1000
          (shapeCast Cert.ReferenceIdeal.S_ a Cert.ReferenceIdeal.Facts₀.shapeCasts_S1_S_)))
        (broadcastInDim Cert.ReferenceIdeal.S16384x1000 ![] Cert.ReferenceIdeal.Facts₀.bcast_S_S16384x1000
          (shapeCast Cert.ReferenceIdeal.S_ b Cert.ReferenceIdeal.Facts₀.shapeCasts_S1_S_))) x
      = bic x k a b := by
  funext (i : Cert.ReferenceIdeal.S16384x1000.Idx)
  obtain ⟨l, r, rfl⟩ : ∃ (l : Fin 16384) (r : Fin 1000), i = ix2 l r := ⟨i 0, i 1, eq_ix2 i⟩
  have scalar (v : FVec Ideal Cert.ReferenceIdeal.S1 .f32) :
      broadcastInDim Cert.ReferenceIdeal.S16384x1000 ![] Cert.ReferenceIdeal.Facts₀.bcast_S_S16384x1000
        (shapeCast Cert.ReferenceIdeal.S_ v Cert.ReferenceIdeal.Facts₀.shapeCasts_S1_S_) (ix2 l r) = v (ix1 u0) :=
    (broadcastInDim_apply _ _ _ _ ix0 fun a => a.elim0).trans (congrArg v (eq_ix1_u0 _))
  have mask : broadcastInDim Cert.ReferenceIdeal.S16384x1000 ![0, 1] Cert.ReferenceIdeal.Facts₀.bcast_S1x1000_S16384x1000_0_1
      (broadcastInDim Cert.ReferenceIdeal.S1x1000 ![1] Cert.ReferenceIdeal.Facts₀.bcast_S1000_S1x1000_1 k) (ix2 l r)
        = k (ix1 r) := by
    refine (broadcastInDim_apply _ _ _ _ (ix2 u0 r) fun x => ?_).trans (broadcastInDim_apply _ _ _ _ (ix1 r) fun x => ?_)
    · match x with
      | ⟨0, _⟩ => rfl
      | ⟨1, _⟩ => rfl
    · match x with
      | ⟨0, _⟩ => rfl
  rw [select_apply, addf_apply, mulf_apply, scalar, scalar, mask]
  rfl

/-- Kernel and reference compute the same function over the extended reals, from arguments that agree. -/
theorem algebraic : Cert.algebraic_KernelIdeal_ReferenceIdeal := by
  intro m g m' g' _ agree
  refine ⟨fun c => bic (inp m c) (msk m c) (alp m c) (bet m c), kernel_run m g, ?_⟩
  refine (θ_run Cert.ReferenceIdeal.defs _ _).mono (fun _ h c => ⟨(h c).1.trans ?_, (h c).2⟩)
    (Cert.ReferenceIdeal.Value.run (F := Ideal) m' g')
  rw [(agree c).1, (agree c).2.1, (agree c).2.2.1, (agree c).2.2.2]
  exact reference_value _ _ _ _

/-- The reference's run leaves its arguments unchanged, and it has no semaphore. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

end Cert.Bic

end
-- ==== Proof.lean ====
/-
  The proof of `Cert.Claim`: the kernel, its idealization and the reference terminate and leave their arguments
  unchanged; the idealization rewrote nothing; and over the extended reals kernel and reference compute the same function.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Bic.Value

@[expose] public section

noncomputable section

namespace Cert.Proof

open Idealize.ShloMosaic Idealize.SL.Sem

/-- The certificate's claim: the three frames, `preserves`, and the algebraic claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    Cert.Bic.reference_frame, trivial, Cert.Bic.algebraic⟩

end Cert.Proof

end
